-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_biases_zero_logits_above_minus_infinity [hPre_biases_zero_logits_above_minus_infinity : Cert.Pre_biases_zero_logits_above_minus_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_biases_zero_logits_above_minus_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_biases_zero_logits_above_minus_infinity [hPre_biases_zero_logits_above_minus_infinity : Cert.Pre_biases_zero_logits_above_minus_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_biases_zero_logits_above_minus_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_biases_zero_logits_above_minus_infinity [hKernelIdeal : Cert.KernelIdeal.Facts] [hPre_biases_zero_logits_above_minus_infinity : Cert.Pre_biases_zero_logits_above_minus_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_biases_zero_logits_above_minus_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_biases_zero_logits_above_minus_infinity [hReferenceIdeal : Cert.ReferenceIdeal.Facts] [hPre_biases_zero_logits_above_minus_infinity : Cert.Pre_biases_zero_logits_above_minus_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_biases_zero_logits_above_minus_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_biases_zero_logits_above_minus_infinity [hKernelIdeal : Cert.KernelIdeal.Facts] [hReferenceIdeal : Cert.ReferenceIdeal.Facts] [hPre_biases_zero_logits_above_minus_infinity : Cert.Pre_biases_zero_logits_above_minus_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_biases_zero_logits_above_minus_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_biases_zero_logits_above_minus_infinity : Cert.Pre_biases_zero_logits_above_minus_infinity.Facts),
    quiescent_Kernel (hKernel := hKernel)
    ∧ quiescent_KernelIdeal (hKernelIdeal := hKernelIdeal)
    ∧ quiescent_KernelIdeal_pre_biases_zero_logits_above_minus_infinity (hKernelIdeal := hKernelIdeal) (hPre_biases_zero_logits_above_minus_infinity := hPre_biases_zero_logits_above_minus_infinity)
    ∧ quiescent_ReferenceIdeal (hReferenceIdeal := hReferenceIdeal)
    ∧ quiescent_ReferenceIdeal_pre_biases_zero_logits_above_minus_infinity (hReferenceIdeal := hReferenceIdeal) (hPre_biases_zero_logits_above_minus_infinity := hPre_biases_zero_logits_above_minus_infinity)
    ∧ preserves_Kernel_KernelIdeal
    ∧ algebraic_KernelIdeal_ReferenceIdeal_pre_biases_zero_logits_above_minus_infinity (hKernelIdeal := hKernelIdeal) (hReferenceIdeal := hReferenceIdeal) (hPre_biases_zero_logits_above_minus_infinity := hPre_biases_zero_logits_above_minus_infinity)
-- ==== Pre_biases_zero_logits_above_minus_infinity.lean ====
abbrev S2x2048x768 : Shape := ⟨3, ![2, 2048, 768]⟩
abbrev S768x512 : Shape := ⟨2, ![768, 512]⟩
abbrev S512 : Shape := ⟨1, ![512]⟩
abbrev S8x64x768 : Shape := ⟨3, ![8, 64, 768]⟩
abbrev S8x768 : Shape := ⟨2, ![8, 768]⟩
abbrev S768x8 : Shape := ⟨2, ![768, 8]⟩
abbrev S8 : Shape := ⟨1, ![8]⟩
abbrev S2x2048x8 : Shape := ⟨3, ![2, 2048, 8]⟩
abbrev S_ : Shape := ⟨0, ![]⟩

class Facts : Prop where
  bcast_S_S512 : S_.BroadcastsInDim S512 (![] : Fin 0 → Fin S512.rank)
  reducesTo_S512_S_d0 : S512.ReducesTo [0] S_
  h_S_ : 0 < S_.numel
  bcast_S_S8x768 : S_.BroadcastsInDim S8x768 (![] : Fin 0 → Fin S8x768.rank)
  reducesTo_S8x768_S_d0_1 : S8x768.ReducesTo [0, 1] S_
  bcast_S_S8 : S_.BroadcastsInDim S8 (![] : Fin 0 → Fin S8.rank)
  reducesTo_S8_S_d0 : S8.ReducesTo [0] S_
  bcast_S_S2x2048x8 : S_.BroadcastsInDim S2x2048x8 (![] : Fin 0 → Fin S2x2048x8.rank)
  reducesTo_S2x2048x8_S_d0_1_2 : S2x2048x8.ReducesTo [0, 1, 2] S_
  dot_S2x2048x768_S768x8_S2x2048x8_2_0_01_1_n_n_wf : DotDims.WF S2x2048x768 S768x8 S2x2048x8 [2] [0] [0, 1] [1] [] []

variable [Facts]

def dot_S2x2048x768_S768x8_S2x2048x8_2_0_01_1_n_n : DotDims S2x2048x768 S768x8 S2x2048x8 where
  lhsContracting := [2]
  rhsContracting := [0]
  lhsNonContracting := [0, 1]
  rhsNonContracting := [1]
  lhsBatch := []
  rhsBatch := []
  wf := dot_S2x2048x768_S768x8_S2x2048x8_2_0_01_1_n_n_wf
def fn {F : FTy → Type} [FloatOps F] (main_arg0 : FVec F S2x2048x768 .f32) (main_arg1 : FVec F S768x512 .f32) (main_arg2 : FVec F S512 .f32) (main_arg3 : FVec F S8x64x768 .f32) (main_arg4 : FVec F S8x768 .f32) (main_arg5 : FVec F S768x8 .f32) (main_arg6 : FVec F S8 .f32) : IVec S_ 1 :=
  let main_v0 : FVec F S2x2048x8 .f32 := (fun l r => Host.dotGeneral dot_S2x2048x768_S768x8_S2x2048x8_2_0_01_1_n_n none l r) main_arg0 main_arg5
  let main_cst : FVec F S_ .f32 := constant S_ .f32 0x00000000#32
  let main_v1 : FVec F S512 .f32 := broadcastInDim S512 ![] bcast_S_S512 main_cst
  let main_v2 : IVec S512 1 := cmpf .oeq main_arg2 main_v1
  let main_c : IVec S_ 1 := constantI S_ 1 1#1
  let main_v3 : IVec S_ 1 := (fun x v => Host.reduce IntOp.andi x v reducesTo_S512_S_d0 h_S_) main_v2 main_c
  let main_cst_0 : FVec F S_ .f32 := constant S_ .f32 0x00000000#32
  let main_v4 : FVec F S8x768 .f32 := broadcastInDim S8x768 ![] bcast_S_S8x768 main_cst_0
  let main_v5 : IVec S8x768 1 := cmpf .oeq main_arg4 main_v4
  let main_c_1 : IVec S_ 1 := constantI S_ 1 1#1
  let main_v6 : IVec S_ 1 := (fun x v => Host.reduce IntOp.andi x v reducesTo_S8x768_S_d0_1 h_S_) main_v5 main_c_1
  let main_v7 : IVec S_ 1 := andi main_v3 main_v6
  let main_cst_2 : FVec F S_ .f32 := constant S_ .f32 0x00000000#32
  let main_v8 : FVec F S8 .f32 := broadcastInDim S8 ![] bcast_S_S8 main_cst_2
  let main_v9 : IVec S8 1 := cmpf .oeq main_arg6 main_v8
  let main_c_3 : IVec S_ 1 := constantI S_ 1 1#1
  let main_v10 : IVec S_ 1 := (fun x v => Host.reduce IntOp.andi x v reducesTo_S8_S_d0 h_S_) main_v9 main_c_3
  let main_v11 : IVec S_ 1 := andi main_v7 main_v10
  let main_cst_4 : FVec F S_ .f32 := constant S_ .f32 0xFF800000#32
  let main_v12 : FVec F S2x2048x8 .f32 := broadcastInDim S2x2048x8 ![] bcast_S_S2x2048x8 main_cst_4
  let main_v13 : IVec S2x2048x8 1 := cmpf .ogt main_v0 main_v12
  let main_c_5 : IVec S_ 1 := constantI S_ 1 1#1
  let main_v14 : IVec S_ 1 := (fun x v => Host.reduce IntOp.andi x v reducesTo_S2x2048x8_S_d0_1_2 h_S_) main_v13 main_c_5
  let main_v15 : IVec S_ 1 := andi main_v11 main_v14
  main_v15
-- ==== Kernel.lean ====
abbrev S2x2048x768 : Shape := ⟨3, ![2, 2048, 768]⟩
abbrev S768x512 : Shape := ⟨2, ![768, 512]⟩
abbrev S512 : Shape := ⟨1, ![512]⟩
abbrev S8x64x768 : Shape := ⟨3, ![8, 64, 768]⟩
abbrev S8x768 : Shape := ⟨2, ![8, 768]⟩
abbrev S768x8 : Shape := ⟨2, ![768, 8]⟩
abbrev S8 : Shape := ⟨1, ![8]⟩
abbrev S1x1024x768 : Shape := ⟨3, ![1, 1024, 768]⟩
abbrev S1024x768 : Shape := ⟨2, ![1024, 768]⟩
abbrev S1024x8 : Shape := ⟨2, ![1024, 8]⟩
abbrev S1024 : Shape := ⟨1, ![1024]⟩
abbrev S1024x1 : Shape := ⟨2, ![1024, 1]⟩
abbrev S1024x512 : Shape := ⟨2, ![1024, 512]⟩
abbrev S512x768 : Shape := ⟨2, ![512, 768]⟩

abbrev nBuf : Space → Nat
  | .hbm => 8
  | .vmem => 7
  | .smem => 0
  | _ => 0

abbrev bufTy : (tb : Table) → Fin (tcTables nBuf tb) → BufTy
  | .hbm, ⟨0, _⟩ => ⟨S2x2048x768, .f32⟩
  | .hbm, ⟨1, _⟩ => ⟨S768x512, .f32⟩
  | .hbm, ⟨2, _⟩ => ⟨S512, .f32⟩
  | .hbm, ⟨3, _⟩ => ⟨S8x64x768, .f32⟩
  | .hbm, ⟨4, _⟩ => ⟨S8x768, .f32⟩
  | .hbm, ⟨5, _⟩ => ⟨S768x8, .f32⟩
  | .hbm, ⟨6, _⟩ => ⟨S8, .f32⟩
  | .hbm, ⟨7, _⟩ => ⟨S2x2048x768, .f32⟩
  | .local _ .vmem, ⟨0, _⟩ => ⟨S1x1024x768, .f32⟩
  | .local _ .vmem, ⟨1, _⟩ => ⟨S1x1024x768, .f32⟩
  | .local _ .vmem, ⟨2, _⟩ => ⟨S768x512, .f32⟩
  | .local _ .vmem, ⟨3, _⟩ => ⟨S8x64x768, .f32⟩
  | .local _ .vmem, ⟨4, _⟩ => ⟨S768x8, .f32⟩
  | .local _ .vmem, ⟨5, _⟩ => ⟨S1x1024x768, .f32⟩
  | .local _ .vmem, ⟨6, _⟩ => ⟨S1x1024x768, .f32⟩
  | _, _ => ⟨S2x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x64x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S2x2048x768 : Shape := ⟨3, ![2, 2048, 768]⟩
abbrev S768x512 : Shape := ⟨2, ![768, 512]⟩
abbrev S512 : Shape := ⟨1, ![512]⟩
abbrev S8x64x768 : Shape := ⟨3, ![8, 64, 768]⟩
abbrev S8x768 : Shape := ⟨2, ![8, 768]⟩
abbrev S768x8 : Shape := ⟨2, ![768, 8]⟩
abbrev S8 : Shape := ⟨1, ![8]⟩
abbrev S2x2048x512 : Shape := ⟨3, ![2, 2048, 512]⟩
abbrev S1x1x512 : Shape := ⟨3, ![1, 1, 512]⟩
abbrev S_ : Shape := ⟨0, ![]⟩
abbrev S2x2048x8x64 : Shape := ⟨4, ![2, 2048, 8, 64]⟩
abbrev S8x768x2x2048 : Shape := ⟨4, ![8, 768, 2, 2048]⟩
abbrev S2x2048x8x768 : Shape := ⟨4, ![2, 2048, 8, 768]⟩
abbrev S1x1x8x768 : Shape := ⟨4, ![1, 1, 8, 768]⟩
abbrev S2x2048x8 : Shape := ⟨3, ![2, 2048, 8]⟩
abbrev S1x1x8 : Shape := ⟨3, ![1, 1, 8]⟩
abbrev S4096x8 : Shape := ⟨2, ![4096, 8]⟩
abbrev S4096x2 : Shape := ⟨2, ![4096, 2]⟩
abbrev S4096x8x768 : Shape := ⟨3, ![4096, 8, 768]⟩
abbrev S4096x2x1 : Shape := ⟨3, ![4096, 2, 1]⟩
abbrev S1 : Shape := ⟨1, ![1]⟩
abbrev S1x1x1 : Shape := ⟨3, ![1, 1, 1]⟩
abbrev S4096x2x768 : Shape := ⟨3, ![4096, 2, 768]⟩
abbrev S4096x768 : Shape := ⟨2, ![4096, 768]⟩

abbrev nBuf : Space → Nat
  | .hbm => 66
  | .vmem => 0
  | .smem => 0
  | _ => 0

abbrev bufTy : (tb : Table) → Fin (tcTables nBuf tb) → BufTy
  | .hbm, ⟨0, _⟩ => ⟨S2x2048x768, .f32⟩
  | .hbm, ⟨1, _⟩ => ⟨S768x512, .f32⟩
  | .hbm, ⟨2, _⟩ => ⟨S512, .f32⟩
  | .hbm, ⟨3, _⟩ => ⟨S8x64x768, .f32⟩
  | .hbm, ⟨4, _⟩ => ⟨S8x768, .f32⟩
  | .hbm, ⟨5, _⟩ => ⟨S768x8, .f32⟩
  | .hbm, ⟨6, _⟩ => ⟨S8, .f32⟩
  | .hbm, ⟨7, _⟩ => ⟨S2x2048x512, .f32⟩
  | .hbm, ⟨8, _⟩ => ⟨S1x1x512, .f32⟩
  | .hbm, ⟨9, _⟩ => ⟨S2x2048x512, .f32⟩
  | .hbm, ⟨10, _⟩ => ⟨S2x2048x512, .f32⟩
  | .hbm, ⟨11, _⟩ => ⟨S_, .f32⟩
  | .hbm, ⟨12, _⟩ => ⟨S2x2048x512, .f32⟩
  | .hbm, ⟨13, _⟩ => ⟨S2x2048x512, .f32⟩
  | .hbm, ⟨14, _⟩ => ⟨S2x2048x512, .f32⟩
  | .hbm, ⟨15, _⟩ => ⟨S_, .f32⟩
  | .hbm, ⟨16, _⟩ => ⟨S2x2048x512, .f32⟩
  | .hbm, ⟨17, _⟩ => ⟨S2x2048x512, .f32⟩
  | .hbm, ⟨18, _⟩ => ⟨S2x2048x512, .f32⟩
  | .hbm, ⟨19, _⟩ => ⟨S2x2048x512, .f32⟩
  | .hbm, ⟨20, _⟩ => ⟨S2x2048x8x64, .f32⟩
  | .hbm, ⟨21, _⟩ => ⟨S8x768x2x2048, .f32⟩
  | .hbm, ⟨22, _⟩ => ⟨S2x2048x8x768, .f32⟩
  | .hbm, ⟨23, _⟩ => ⟨S1x1x8x768, .f32⟩
  | .hbm, ⟨24, _⟩ => ⟨S2x2048x8x768, .f32⟩
  | .hbm, ⟨25, _⟩ => ⟨S2x2048x8x768, .f32⟩
  | .hbm, ⟨26, _⟩ => ⟨S2x2048x8, .f32⟩
  | .hbm, ⟨27, _⟩ => ⟨S1x1x8, .f32⟩
  | .hbm, ⟨28, _⟩ => ⟨S2x2048x8, .f32⟩
  | .hbm, ⟨29, _⟩ => ⟨S2x2048x8, .f32⟩
  | .hbm, ⟨30, _⟩ => ⟨S4096x8, .f32⟩
  | .hbm, ⟨31, _⟩ => ⟨S4096x2, .f32⟩
  | .hbm, ⟨32, _⟩ => ⟨S4096x2, .i32⟩
  | .hbm, ⟨33, _⟩ => ⟨S4096x8x768, .f32⟩
  | .hbm, ⟨34, _⟩ => ⟨S4096x2x1, .i32⟩
  | .hbm, ⟨35, _⟩ => ⟨S_, .i32⟩
  | .hbm, ⟨36, _⟩ => ⟨S4096x2x1, .i32⟩
  | .hbm, ⟨37, _⟩ => ⟨S4096x2x1, .i1⟩
  | .hbm, ⟨38, _⟩ => ⟨S_, .i32⟩
  | .hbm, ⟨39, _⟩ => ⟨S4096x2x1, .i32⟩
  | .hbm, ⟨40, _⟩ => ⟨S4096x2x1, .i32⟩
  | .hbm, ⟨41, _⟩ => ⟨S4096x2x1, .i32⟩
  | .hbm, ⟨42, _⟩ => ⟨S1, .i32⟩
  | .hbm, ⟨43, _⟩ => ⟨S_, .i32⟩
  | .hbm, ⟨44, _⟩ => ⟨S4096x2x1, .i32⟩
  | .hbm, ⟨45, _⟩ => ⟨S4096x2x1, .i1⟩
  | .hbm, ⟨46, _⟩ => ⟨S1x1x1, .i32⟩
  | .hbm, ⟨47, _⟩ => ⟨S4096x2x1, .i32⟩
  | .hbm, ⟨48, _⟩ => ⟨S4096x2x1, .i1⟩
  | .hbm, ⟨49, _⟩ => ⟨S4096x2x1, .i1⟩
  | .hbm, ⟨50, _⟩ => ⟨S_, .i1⟩
  | .hbm, ⟨51, _⟩ => ⟨S4096x2, .i1⟩
  | .hbm, ⟨52, _⟩ => ⟨S4096x2x768, .f32⟩
  | .hbm, ⟨53, _⟩ => ⟨S4096x2x768, .i1⟩
  | .hbm, ⟨54, _⟩ => ⟨S_, .f32⟩
  | .hbm, ⟨55, _⟩ => ⟨S4096x2x768, .f32⟩
  | .hbm, ⟨56, _⟩ => ⟨S4096x2x768, .f32⟩
  | .hbm, ⟨57, _⟩ => ⟨S_, .f32⟩
  | .hbm, ⟨58, _⟩ => ⟨S4096x768, .f32⟩
  | .hbm, ⟨59, _⟩ => ⟨S_, .f32⟩
  | .hbm, ⟨60, _⟩ => ⟨S4096x768, .f32⟩
  | .hbm, ⟨61, _⟩ => ⟨S4096x768, .f32⟩
  | .hbm, ⟨62, _⟩ => ⟨S2x2048x768, .f32⟩
  | .hbm, ⟨63, _⟩ => ⟨S_, .f32⟩
  | .hbm, ⟨64, _⟩ => ⟨S2x2048x768, .f32⟩
  | .hbm, ⟨65, _⟩ => ⟨S2x2048x768, .f32⟩
  | _, _ => ⟨S2x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_values : Ref sig .tc := ⟨.hbm, 31, rfl⟩
abbrev main_indices : Ref sig .tc := ⟨.hbm, 32, rfl⟩
abbrev main_v22 : Ref sig .tc := ⟨.hbm, 33, rfl⟩
abbrev main_v23 : Ref sig .tc := ⟨.hbm, 34, rfl⟩
abbrev main_call0_c : Ref sig .tc := ⟨.hbm, 35, rfl⟩
abbrev main_call0_v0 : Ref sig .tc := ⟨.hbm, 36, rfl⟩
abbrev main_call0_v1 : Ref sig .tc := ⟨.hbm, 37, rfl⟩
abbrev main_call0_c_0 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_call0_c_1 : Ref sig .tc := ⟨.hbm, 42, rfl⟩
abbrev main_call0_c_2 : Ref sig .tc := ⟨.hbm, 43, rfl⟩
abbrev main_call0_v5 : Ref sig .tc := ⟨.hbm, 44, rfl⟩
abbrev main_call0_v6 : Ref sig .tc := ⟨.hbm, 45, rfl⟩
abbrev main_call0_v7 : Ref sig .tc := ⟨.hbm, 46, rfl⟩
abbrev main_call0_v8 : Ref sig .tc := ⟨.hbm, 47, rfl⟩
abbrev main_call0_v9 : Ref sig .tc := ⟨.hbm, 48, rfl⟩
abbrev main_call0_v10 : Ref sig .tc := ⟨.hbm, 49, rfl⟩
abbrev main_call0_c_3 : Ref sig .tc := ⟨.hbm, 50, rfl⟩
abbrev main_call0_v11 : Ref sig .tc := ⟨.hbm, 51, rfl⟩
abbrev main_call0_v12 : Ref sig .tc := ⟨.hbm, 52, rfl⟩
abbrev main_call0_v13 : Ref sig .tc := ⟨.hbm, 53, rfl⟩
abbrev main_call0_cst : Ref sig .tc := ⟨.hbm, 54, rfl⟩
abbrev main_call0_v14 : Ref sig .tc := ⟨.hbm, 55, rfl⟩
abbrev main_v24 : Ref sig .tc := ⟨.hbm, 56, rfl⟩
abbrev main_cst_1 : Ref sig .tc := ⟨.hbm, 57, rfl⟩
abbrev main_v25 : Ref sig .tc := ⟨.hbm, 58, rfl⟩
abbrev main_cst_2 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_cst_3 : Ref sig .tc := ⟨.hbm, 63, rfl⟩
abbrev main_v29 : Ref sig .tc := ⟨.hbm, 64, rfl⟩
abbrev main_v30 : Ref sig .tc := ⟨.hbm, 65, rfl⟩

abbrev nD : Nat := 1
abbrev τ : Topo := Topo.v7x

variable {F : FTy → Type} [FloatOps F]
-- ==== Proof.Choice.lean ====
/- The two greatest of eight extended reals, by position: the position of the greatest entry, the position of the
   greatest entry once that one is replaced by −∞, and the fact that a stable descending sort puts exactly these two
   positions first. -/
module

public import Idealize.ShloMosaic.Lib.SortPrefix
public import Idealize.ShloMosaic.PureOps.Ideal

@[expose] public section

noncomputable section

namespace Cert.Choice

open Idealize.ShloMosaic

/-- Some entry is at least every entry. -/
theorem exists_greatest (g : Fin 8 → EReal) : (Finset.univ.filter fun e => ∀ p, g p ≤ g e).Nonempty := by
  obtain ⟨e, he⟩ := Finite.exists_max g
  exact ⟨e, by simpa using he⟩

/-- The first position that holds the greatest entry. -/
def first (g : Fin 8 → EReal) : Fin 8 := (Finset.univ.filter fun e => ∀ p, g p ≤ g e).min' (exists_greatest g)

/-- No entry exceeds the one at `first`. -/
theorem le_first (g : Fin 8 → EReal) (p : Fin 8) : g p ≤ g (first g) := by
  have h := Finset.min'_mem _ (exists_greatest g)
  exact (Finset.mem_filter.mp h).2 p

/-- A position that holds the greatest entry is not before `first`. -/
theorem first_le (g : Fin 8 → EReal) (e : Fin 8) (h : g e = g (first g)) : first g ≤ e :=
  Finset.min'_le _ _ (by simpa [h] using le_first g)

/-- The entries with the one at `first` replaced by −∞. -/
def rest (g : Fin 8 → EReal) (e : Fin 8) : EReal := if e = first g then ⊥ else g e

/-- The first position that holds the greatest of the entries other than the one at `first`. -/
def second (g : Fin 8 → EReal) : Fin 8 := first (rest g)

/-- If no entry is −∞, the two positions differ. -/
theorem second_ne_first (g : Fin 8 → EReal) (hg : ∀ e, g e ≠ ⊥) : second g ≠ first g := by
  intro h
  obtain ⟨e, he⟩ := exists_ne (first g)
  have hle := le_first (rest g) e
  rw [show first (rest g) = first g from h] at hle
  simp only [rest, if_neg he, if_true, le_bot_iff] at hle
  exact hg e hle

/-- Away from `first`, no entry exceeds the one at `second`. -/
theorem le_second (g : Fin 8 → EReal) (hg : ∀ e, g e ≠ ⊥) (p : Fin 8) (hp : p ≠ first g) : g p ≤ g (second g) := by
  have hle := le_first (rest g) p
  change rest g p ≤ rest g (second g) at hle
  simpa only [rest, if_neg hp, if_neg (second_ne_first g hg)] using hle

/-- Away from `first`, a position holding the same entry as `second` is not before it. -/
theorem second_le (g : Fin 8 → EReal) (hg : ∀ e, g e ≠ ⊥) (p : Fin 8) (hp : p ≠ first g) (h : g p = g (second g)) :
    second g ≤ p := by
  refine first_le (rest g) p ?_
  change rest g p = rest g (second g)
  simpa only [rest, if_neg hp, if_neg (second_ne_first g hg)] using h

/-- Descending by entry. -/
def above (g : Fin 8 → EReal) (k k' : Fin 8) : Bool := decide (g k' < g k)

/-- Descending by entry, equal entries by position. -/
def ahead (g : Fin 8 → EReal) (k k' : Fin 8) : Bool := decide (g k' < g k) || (decide (g k = g k') && decide (k < k'))

/-- `ahead` is a strict total order on the positions. -/
theorem ahead_total (g : Fin 8 → EReal) : StrictTotalBefore (ahead g) :=
  StrictTotalBefore.of_key_then_position (fun a b : EReal => decide (b < a)) g (by simp)
    (fun a b c h h' => by simp only [decide_eq_true_eq] at h h' ⊢; exact h'.trans h)
    (fun a b => by
      simp only [decide_eq_true_eq]
      rcases lt_trichotomy a b with h | h | h
      · exact .inr (.inr h)
      · exact .inr (.inl h)
      · exact .inl h)

/-- On positions listed in increasing order the stable sort by entry is the sort by entry and position. -/
theorem stableSort_above (g : Fin 8 → EReal) (l : List (Fin 8)) (hl : l.Pairwise (· < ·)) :
    stableSort (above g) l = stableSort (ahead g) l := by
  induction l with
  | nil => rfl
  | cons a l ih =>
    rw [List.pairwise_cons] at hl
    simp only [stableSort]
    rw [ih hl.2]
    refine insertBefore_congr _ _ a _ fun b hb => ?_
    have hab : a < b := hl.1 b ((perm_stableSort (ahead g) l).mem_iff.mp hb)
    simp [above, ahead, not_lt.mpr hab.le]

/-- The stable descending sort lists the positions as the sort by entry and position does. -/
theorem sortedFrom_above (g : Fin 8 → EReal) : sortedFrom (above g) = sortedFrom (ahead g) := by
  funext k
  have h : sortPositions 8 (above g) = sortPositions 8 (ahead g) :=
    stableSort_above g _ (List.pairwise_lt_finRange 8)
  unfold sortedFrom
  rw [List.get_of_eq h]
  rfl

/-- If no entry is −∞, the stable descending sort has `first` and `second` in its first two places. -/
theorem sortedFrom_eq (g : Fin 8 → EReal) (hg : ∀ e, g e ≠ ⊥) (i : Fin 2) :
    sortedFrom (above g) (i.castLE (by decide)) = (![first g, second g] : Fin 2 → Fin 8) i := by
  have hne := second_ne_first g hg
  have hfirst : ∀ p, p ≠ first g → ahead g p (first g) = false := fun p hp => by
    simp only [ahead, Bool.or_eq_false_iff, Bool.and_eq_false_iff, decide_eq_false_iff_not]
    exact ⟨not_lt.mpr (le_first g p), or_iff_not_imp_left.mpr fun h => not_lt.mpr (first_le g p (not_not.mp h))⟩
  have hsecond : ∀ p, p ≠ first g → ahead g p (second g) = false := fun p hp => by
    simp only [ahead, Bool.or_eq_false_iff, Bool.and_eq_false_iff, decide_eq_false_iff_not]
    exact ⟨not_lt.mpr (le_second g hg p hp),
      or_iff_not_imp_left.mpr fun h => not_lt.mpr (second_le g hg p hp (not_not.mp h))⟩
  rw [sortedFrom_above]
  refine (ahead_total g).sortedFrom_eq_of_prefix (by decide) (![first g, second g] : Fin 2 → Fin 8) ?_ ?_ ?_ i
  · intro a b hab
    have hab' : (![first g, second g] : Fin 2 → Fin 8) a = ![first g, second g] b := hab
    fin_cases a <;> fin_cases b
    · rfl
    · exact absurd hab'.symm hne
    · exact absurd hab' hne
    · rfl
  · intro a b hab
    fin_cases a <;> fin_cases b <;> first | exact absurd hab (by decide) | exact hfirst _ hne
  · intro a p hp
    have h0 : p ≠ first g := fun h => hp 0 h.symm
    fin_cases a
    · exact hfirst p h0
    · exact hsecond p h0

/-- A fold of an idempotent operation over all positions is the value that absorbs every term and the start, if it is
    one of the terms. -/
theorem fold_eq_of_absorbs {n : Nat} {α : Type} (op : α → α → α) [Std.Commutative op] [Std.Associative op]
    [Std.IdempotentOp op] (init : α) (f : Fin n → α) (e : Fin n) (h : ∀ p, op (f e) (f p) = f e)
    (hi : op (f e) init = f e) : Finset.univ.fold op init f = f e := by
  have habs : ∀ s : Finset (Fin n), op (f e) (s.fold op init f) = f e := fun s => by
    induction s using Finset.induction_on with
    | empty => simpa using hi
    | insert a s ha ih => rw [Finset.fold_insert ha, ← Std.Associative.assoc (op := op), h, ih]
  have hmem : op (f e) (Finset.univ.fold op init f) = Finset.univ.fold op init f := by
    conv_rhs => rw [← Finset.insert_eq_self.mpr (Finset.mem_univ e), Finset.fold_insert_idem]
  exact hmem.symm.trans (habs _)

end Cert.Choice

end
-- ==== Proof.Spec.lean ====
/- What is computed for one token: the gate logits, the hidden activations, one adapter's output, and the sum of the
   two chosen adapters' outputs. The arrays are the weights as the arguments hold them; a token is its row of 768
   features. -/
module

public import proofs.«01_k».proof.Proof.Choice
public import Idealize.ShloMosaic.Lib.Pointwise

@[expose] public section

noncomputable section

namespace Cert.Spec

open Idealize.ShloMosaic

/-- The shape of the gate weights. -/
abbrev Gate : Shape := ⟨2, ![768, 8]⟩
/-- The shape of the first layer's weights. -/
abbrev Down : Shape := ⟨2, ![768, 512]⟩
/-- The shape of the second layers' weights, one matrix per adapter. -/
abbrev Up : Shape := ⟨3, ![8, 64, 768]⟩

/-- The gate logit of adapter `e` for the token `row`. -/
def logit (row : Fin 768 → EReal) (wg : FVec Ideal Gate .f32) (e : Fin 8) : EReal := ∑ k, row k * wg (ix2 k e)

/-- The first layer's output `m` for the token `row`. -/
def hidden (row : Fin 768 → EReal) (w1 : FVec Ideal Down .f32) (m : Fin 512) : EReal := ∑ k, row k * w1 (ix2 k m)

/-- The activation `h · ½ · (1 + erf (h · c))`, with `c` the constant that both programs carry for √½. -/
def gelu (h : EReal) : EReal :=
  h * Ideal.ofBits .f32 0x3F000000#32 * (1 + Ideal.erf (h * Ideal.ofBits .f32 0x3F3504F3#32))

/-- The position of hidden unit `i` of adapter `e` among the 512. -/
def unit (e : Fin 8) (i : Fin 64) : Fin 512 := ⟨e.val * 64 + i.val, by omega⟩

/-- The adapter that hidden unit `m` belongs to. -/
def owner (m : Fin 512) : Fin 8 := ⟨m.val / 64, by omega⟩

/-- The position of hidden unit `m` within its adapter. -/
def within (m : Fin 512) : Fin 64 := ⟨m.val % 64, by omega⟩

/-- Output `n` of adapter `e` for the token `row`. -/
def adapter (row : Fin 768 → EReal) (w1 : FVec Ideal Down .f32) (w2 : FVec Ideal Up .f32) (n : Fin 768) (e : Fin 8) :
    EReal := ∑ i, gelu (hidden row w1 (unit e i)) * w2 (ix3 e i n)

/-- Output `n` for the token `row`: the two chosen adapters' outputs, added. -/
def answer (row : Fin 768 → EReal) (wg : FVec Ideal Gate .f32) (w1 : FVec Ideal Down .f32) (w2 : FVec Ideal Up .f32)
    (n : Fin 768) : EReal :=
  adapter row w1 w2 n (Choice.first (logit row wg)) + adapter row w1 w2 n (Choice.second (logit row wg))

/-- The shape of the tokens and of the result. -/
abbrev Tokens : Shape := ⟨3, ![2, 2048, 768]⟩

/-- The features of token `l` of sequence `b`. -/
def token (x : FVec Ideal Tokens .f32) (b : Fin 2) (l : Fin 2048) (k : Fin 768) : EReal := x (ix3 b l k)

/-- The whole result: every token's two chosen adapters' outputs, added. -/
def layer (x : FVec Ideal Tokens .f32) (wg : FVec Ideal Gate .f32) (w1 : FVec Ideal Down .f32) (w2 : FVec Ideal Up .f32) :
    FVec Ideal Tokens .f32 := fun j => answer (token x (j 0) (j 1)) wg w1 w2 (j 2)

/-- A sum over the 512 hidden units that keeps those of two different adapters is the two adapters' sums, added. -/
theorem sum_kept (f : Fin 512 → EReal) (a b : Fin 8) (hab : a ≠ b) :
    (∑ m, if owner m = a ∨ owner m = b then f m else 0) = (∑ i, f (unit a i)) + ∑ i, f (unit b i) := by
  have hsplit : ∀ h : Fin 512 → EReal, ∑ m, h m = ∑ e : Fin 8, ∑ i : Fin 64, h (unit e i) := fun h => by
    rw [← Fintype.sum_prod_type' (f := fun e i => h (unit e i))]
    refine (Fintype.sum_equiv (finProdFinEquiv (m := 8) (n := 64)) _ _ fun p => ?_).symm
    exact congrArg h (Fin.ext (by simp [unit, finProdFinEquiv]; omega))
  have howner : ∀ e i, owner (unit e i) = e := fun e i => Fin.ext (by simp only [owner, unit]; omega)
  rw [hsplit]
  simp only [howner]
  have hothers : (∑ e ∈ (Finset.univ.erase a).erase b, ∑ i, if e = a ∨ e = b then f (unit e i) else 0) = 0 :=
    Finset.sum_eq_zero fun e he => by
      simp only [Finset.mem_erase, Finset.mem_univ, and_true] at he
      simp [he.1, he.2]
  rw [← Finset.add_sum_erase _ _ (Finset.mem_univ a),
    ← Finset.add_sum_erase _ _ (Finset.mem_erase.mpr ⟨hab.symm, Finset.mem_univ b⟩), hothers, add_zero]
  simp

end Cert.Spec

end
-- ==== Proof.Words.lean ====
/- The integer words in which a choice is carried: the word of the first position of the greatest entry, equality of
   two words, and the word of a hidden unit's adapter. -/
module

public import proofs.«01_k».proof.Proof.Spec

@[expose] public section

noncomputable section

namespace Cert.Words

open Idealize.ShloMosaic

/-- The pattern the kernel writes for −∞ is −∞. -/
theorem minus_infinity : Ideal.ofBits .f32 0xFF800000#32 = (⊥ : EReal) := by
  simp [Ideal.ofBits, Ideal.ieee]

/-- The lesser of a position's word and a later position's word, or of a position's word and 8, is the former. -/
theorem minsi_word : ∀ a b : Fin 8, (a ≤ b → IntOp.minsi (BitVec.ofNat 32 a.val) (BitVec.ofNat 32 b.val) = BitVec.ofNat 32 a.val)
    ∧ IntOp.minsi (BitVec.ofNat 32 a.val) 8#32 = BitVec.ofNat 32 a.val
    ∧ IntOp.minsi (BitVec.ofNat 32 a.val) 2147483647#32 = BitVec.ofNat 32 a.val := by
  decide +kernel

/-- The lesser of a word and itself is that word. -/
instance minsi_idempotent : Std.IdempotentOp (IntOp.minsi (w := 32)) := ⟨fun a => by simp [IntOp.minsi]⟩

/-- Two positions' words are equal where the positions are. -/
theorem eq_word : ∀ a b : Fin 8, IntOp.cmpi .eq (BitVec.ofNat 32 a.val) (BitVec.ofNat 32 b.val) = if a = b then 1#1 else 0#1 := by
  decide +kernel

/-- A hidden unit's number shifted right by six is its adapter's number. -/
theorem owner_word : ∀ m : Fin 512,
    IntOp.shrsi .vector (BitVec.ofNat 32 m.val) 6#32 = BitVec.ofNat 32 (Spec.owner m).val := by
  decide +kernel

/-- The greatest of the entries, from −∞. -/
theorem greatest (g : Fin 8 → EReal) :
    Finset.univ.fold max (Ideal.ofBits .f32 0xFF800000#32) g = g (Choice.first g) :=
  Choice.fold_eq_of_absorbs max _ g _ (fun p => max_eq_left (Choice.le_first g p))
    (by rw [minus_infinity]; exact max_eq_left bot_le)

/-- The least position that holds the greatest entry, as the kernel computes it, is the word of `first`. -/
theorem choice_word (g : Fin 8 → EReal) :
    Finset.univ.fold IntOp.minsi 2147483647#32
        (fun e => if g e = Finset.univ.fold max (Ideal.ofBits .f32 0xFF800000#32) g then BitVec.ofNat 32 e.val else 8#32)
      = BitVec.ofNat 32 (Choice.first g).val := by
  rw [greatest]
  have h := Choice.fold_eq_of_absorbs IntOp.minsi 2147483647#32
    (fun e : Fin 8 => if g e = g (Choice.first g) then BitVec.ofNat 32 e.val else 8#32) (Choice.first g) ?_ ?_
  · simpa using h
  · intro p
    simp only [if_true]
    split
    · exact (minsi_word _ p).1 (Choice.first_le g p ‹_›)
    · exact (minsi_word _ 0).2.1
  · simpa using (minsi_word (Choice.first g) 0).2.2

/-- The bitwise or of two truth words is set where one of them is. -/
theorem ori_flags (p q : Prop) [Decidable p] [Decidable q] :
    IntOp.ori (if p then 1#1 else 0#1) (if q then 1#1 else 0#1) = 1 ↔ p ∨ q := by
  by_cases hp : p <;> by_cases hq : q <;> simp [hp, hq, IntOp.ori]

end Cert.Words

end
-- ==== Proof.Block.lean ====
/- What one block of the kernel computes: the word of each choice, the kept hidden units, and the stored output, each
   at one token of the block. -/
module

public import proofs.«01_k».proof.Proof.Gen.KernelIdeal.Skeleton
public import proofs.«01_k».proof.Proof.Words
public import Idealize.ShloMosaic.Lib.Pointwise
public import Idealize.ShloMosaic.Lib.Pipeline.ValueKit

@[expose] public section

set_option maxRecDepth 16384

noncomputable section

namespace Cert.KernelIdeal.Block

open Idealize.ShloMosaic Idealize.ShloMosaic.TcCoe Cert.Words Cert.KernelIdeal Cert.KernelIdeal.Gen

variable (x : FVec Ideal S1x1024x768 .f32) (wg : FVec Ideal S768x8 .f32) (w1 : FVec Ideal S768x512 .f32)
  (w2 : FVec Ideal S8x64x768 .f32)

/-- The features of token `r` of the block. -/
def row (r : Fin 1024) (k : Fin 768) : EReal := x (ix3 0 r k)

/-- The block's logits. -/
theorem logits (r : Fin 1024) (e : Fin 8) : k0_pay3 (F := Ideal) x wg (ix2 r e) = Spec.logit (row x r) wg e := by
  pointwise [k0_pay3, k0_pay2]
  rfl

/-- The block's first choices. -/
theorem first_choice (r : Fin 1024) (z : Fin 1) :
    k0_pay4 (F := Ideal) x wg (ix2 r z) = BitVec.ofNat 32 (Choice.first (Spec.logit (row x r) wg)).val := by
  pointwise [k0_pay4]
  simp only [logits]
  exact choice_word _

/-- The block's second choices. -/
theorem second_choice (r : Fin 1024) (z : Fin 1) :
    k0_pay5 (F := Ideal) x wg (ix2 r z) = BitVec.ofNat 32 (Choice.second (Spec.logit (row x r) wg)).val := by
  pointwise [k0_pay5]
  have hrest : ∀ e : Fin 8, Scalar.select (IntOp.cmpi .eq (BitVec.ofNat 32 e.val) (k0_pay4 (F := Ideal) x wg (ix2 r 0)))
      (Ideal.ofBits .f32 0xFF800000#32) (k0_pay3 (F := Ideal) x wg (ix2 r e))
      = Choice.rest (Spec.logit (row x r) wg) e := fun e => by
    rw [first_choice, logits, eq_word, minus_infinity]
    unfold Scalar.select Choice.rest
    split <;> simp_all
  simp only [hrest]
  exact choice_word _

/-- The block's activations. -/
theorem activations (r : Fin 1024) (m : Fin 512) :
    k0_pay6 (F := Ideal) x w1 (ix2 r m) = Spec.gelu (Spec.hidden (row x r) w1 m) := by
  pointwise [k0_pay6, k0_pay2]
  rfl

/-- The block's output: every hidden unit of the two chosen adapters, through the second layer. -/
theorem kept (r : Fin 1024) (z : Fin 1) (n : Fin 768) :
    k0_pay1 (F := Ideal) (k0_pay5 (F := Ideal) x wg) (k0_pay6 (F := Ideal) x w1) k0_pay7 (k0_pay8 (F := Ideal) x wg) w2
        (ix3 z r n)
      = ∑ m, if Spec.owner m = Choice.first (Spec.logit (row x r) wg) ∨ Spec.owner m = Choice.second (Spec.logit (row x r) wg)
          then Spec.gelu (Spec.hidden (row x r) w1 m) * w2 (ix3 (Spec.owner m) (Spec.within m) n) else 0 := by
  pointwise [k0_pay1, k0_pay7, k0_pay8]
  refine Finset.sum_congr rfl fun m _ => ?_
  rw [first_choice, second_choice, activations, owner_word, eq_word, eq_word]
  simp only [Scalar.select, ori_flags]
  rfl

/-- The block's output where no logit is −∞: the two chosen adapters' outputs, added. -/
theorem output (r : Fin 1024) (z : Fin 1) (n : Fin 768) (hg : ∀ e, Spec.logit (row x r) wg e ≠ ⊥) :
    k0_pay1 (F := Ideal) (k0_pay5 (F := Ideal) x wg) (k0_pay6 (F := Ideal) x w1) k0_pay7 (k0_pay8 (F := Ideal) x wg) w2
        (ix3 z r n)
      = Spec.answer (row x r) wg w1 w2 n := by
  rw [kept, Spec.sum_kept _ _ _ (Choice.second_ne_first _ hg).symm]
  have hunit : ∀ e i, Spec.owner (Spec.unit e i) = e ∧ Spec.within (Spec.unit e i) = i := fun e i =>
    ⟨Fin.ext (by simp only [Spec.owner, Spec.unit]; omega), Fin.ext (by simp only [Spec.within, Spec.unit]; omega)⟩
  simp only [(hunit _ _).1, (hunit _ _).2]
  rfl

end Cert.KernelIdeal.Block

end
-- ==== Proof.Array.lean ====
/- What the kernel's result array holds after the run: the layer, where no gate logit is −∞. -/
module

public import proofs.«01_k».proof.Proof.Gen.KernelIdeal.Value
public import proofs.«01_k».proof.Proof.Block

@[expose] public section

set_option maxRecDepth 16384

noncomputable section

namespace Cert.KernelIdeal.Array

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ)

/-- Grid point `t` works on rows `(t mod 2) · 1024 …` of sequence `t / 2`; the weights are whole at every point. -/
theorem places : ∀ t : Fin cfg0.N, win0_0.index t = ![t.val / 2, t.val % 2, 0] ∧ win0_1.index t = ![0, 0]
    ∧ win0_2.index t = ![0, 0, 0] ∧ win0_3.index t = ![0, 0] ∧ win0_4.index t = ![t.val / 2, t.val % 2, 0] :=
  (by decide +kernel : ∀ t : Fin grid0.N, _)

/-- What a grid point stores at a place of its block is the layer at that place of the array. -/
theorem stored (c : Dev nD)
    (hg : ∀ b l e, Spec.logit (Spec.token (m ((c : Thread nD τ).loc main_arg0)) b l) (m ((c : Thread nD τ).loc main_arg5)) e ≠ ⊥)
    (t : Fin cfg0.N) (y : S1x1024x768.Idx) :
    k0_pay1 (F := Ideal) (k0_pay5 (F := Ideal) (iblk m c 0 t) (iblk m c 3 t)) (k0_pay6 (F := Ideal) (iblk m c 0 t) (iblk m c 1 t))
        k0_pay7 (k0_pay8 (F := Ideal) (iblk m c 0 t) (iblk m c 3 t)) (iblk m c 2 t) y
      = Spec.layer (m ((c : Thread nD τ).loc main_arg0)) (m ((c : Thread nD τ).loc main_arg5))
          (m ((c : Thread nD τ).loc main_arg1)) (m ((c : Thread nD τ).loc main_arg3)) (((cfg0.win 4).blk t).view.emb y) := by
  have e1 : iblk m c 1 t = m ((c : Thread nD τ).loc main_arg1) := by blk_ext! [iblk, V, places t]
  have e2 : iblk m c 2 t = m ((c : Thread nD τ).loc main_arg3) := by blk_ext! [iblk, V, places t]
  have e3 : iblk m c 3 t = m ((c : Thread nD τ).loc main_arg5) := by blk_ext! [iblk, V, places t]
  rw [e1, e2, e3]
  have hrow : Block.row (iblk m c 0 t) (y 1) = Spec.token (m ((c : Thread nD τ).loc main_arg0))
      ((((cfg0.win 4).blk t).view.emb y) 0) ((((cfg0.win 4).blk t).view.emb y) 1) := by
    funext k
    unfold Block.row Spec.token
    blk_ext [iblk, V, places t]
  have hcol : (((cfg0.win 4).blk t).view.emb y) 2 = y 2 := by
    apply Fin.ext
    blk_simp [places t]
  have hout := Block.output (iblk m c 0 t) (m ((c : Thread nD τ).loc main_arg5)) (m ((c : Thread nD τ).loc main_arg1))
    (m ((c : Thread nD τ).loc main_arg3)) (y 1) (y 0) (y 2) (by rw [hrow]; exact hg _ _)
  rw [eq_ix3 y, hout, hrow, ← eq_ix3 y]
  unfold Spec.layer
  rw [hcol]

/-- The result array after the run is the layer, if no gate logit is −∞. -/
theorem final (c : Dev nD)
    (hg : ∀ b l e, Spec.logit (Spec.token (m ((c : Thread nD τ).loc main_arg0)) b l) (m ((c : Thread nD τ).loc main_arg5)) e ≠ ⊥) :
    (dats m 0 c).arrAt 4 cfg0.N
      = Spec.layer (m ((c : Thread nD τ).loc main_arg0)) (m ((c : Thread nD τ).loc main_arg5))
          (m ((c : Thread nD τ).loc main_arg1)) (m ((c : Thread nD τ).loc main_arg3)) := by
  refine (dats m 0 c).arrAt_eq_of_covers 4 _ (by decide +kernel) fun t _ y => ?_
  blk_simp
  rw [after0_4]
  frame_out
  exact stored m c hg t y

end Cert.KernelIdeal.Array

end
-- ==== Proof.TopTwo.lean ====
/- The two positions that the reference's top-2 lists for one token: the words of the two choices. -/
module

public import proofs.«01_k».proof.ReferenceIdeal
public import proofs.«01_k».proof.Proof.Words

@[expose] public section

set_option maxRecDepth 16384

noncomputable section

namespace Cert.ReferenceIdeal.TopTwo

open Idealize.ShloMosaic Cert.ReferenceIdeal

/-- The positions listed by the top-2 of a row with no entry −∞: the first choice, then the second. -/
theorem listed (x : FVec Ideal S4096x8 .f32) (hfit : S4096x8.Slices (fun _ => 0) S4096x2) (n : Fin 4096) (r : Fin 2)
    (hx : ∀ e : Fin 8, x (ix2 n e) ≠ (⊥ : EReal)) :
    (Host.topK S4096x2 1 (FloatOps.cmpfTotal .gt) x hfit).2 (ix2 n r)
      = BitVec.ofNat 32 ((![Choice.first fun e => x (ix2 n e), Choice.second fun e => x (ix2 n e)] : Fin 2 → Fin 8) r).val := by
  rw [← Choice.sortedFrom_eq (fun e => x (ix2 n e)) hx r]
  have halong : ∀ (j : S4096x8.Idx) (k : Fin 8), j.along 1 k = ix2 (j 0) k := fun j k => by
    funext a
    fin_cases a <;> rfl
  have hcmp : ∀ j : S4096x8.Idx, (fun k k' : Fin 8 => Ideal.cmp .ogt (x (j.along 1 k)) (x (j.along 1 k')) == 1#1)
      = Choice.above fun e => x (ix2 (j 0) e) := fun j => by
    funext k k'
    rw [halong, halong]
    simp only [Ideal.cmp, Choice.above]
    by_cases hk : x (ix2 (j 0) k') < x (ix2 (j 0) k) <;> simp [hk]
  let j : S4096x8.Idx := fun a => ⟨0 + ((ix2 n r : S4096x2.Idx) (a.cast hfit.1.symm)).val,
    Nat.lt_of_lt_of_le (Nat.add_lt_add_left ((ix2 n r : S4096x2.Idx) _).isLt _) (hfit.2 a)⟩
  have hj : j = ix2 n (r.castLE (by decide)) := by
    funext a
    fin_cases a <;> exact Fin.ext (Nat.zero_add _)
  have hlist : (Host.topK S4096x2 1 (FloatOps.cmpfTotal .gt) x hfit).2 (ix2 n r)
      = BitVec.ofNat 32 (j.along 1 (sortedFrom
          (fun k k' : Fin 8 => Ideal.cmp .ogt (x (j.along 1 k)) (x (j.along 1 k')) == 1#1) (j 1)) 1).val := rfl
  rw [hlist, hcmp, hj]
  rfl

end Cert.ReferenceIdeal.TopTwo

end
-- ==== Proof.Take.lean ====
/- The reference's selection of rows by a list of positions: with the positions in range, each selected row is the row
   at its position. -/
module

public import proofs.«01_k».proof.ReferenceIdeal
public import proofs.«01_k».proof.Proof.Words

@[expose] public section

set_option maxRecDepth 16384

noncomputable section

namespace Cert.ReferenceIdeal.Take

open Idealize.ShloMosaic Cert.ReferenceIdeal Cert.ReferenceIdeal.Facts₀

variable [Facts₀]

/-- The positions as start indices: a negative position counts from the end. -/
def starts (idx : IVec S4096x2 32) : IVec S4096x2x1 32 :=
  select (cmpi .slt (broadcastInDim S4096x2x1 ![0, 1] bcast_S4096x2_S4096x2x1_0_1 idx)
      (broadcastInDim S4096x2x1 ![] bcast_S_S4096x2x1 (constantI S_ 32 0#32)))
    (addi (broadcastInDim S4096x2x1 ![0, 1] bcast_S4096x2_S4096x2x1_0_1 idx)
      (broadcastInDim S4096x2x1 ![] bcast_S_S4096x2x1 (constantI S_ 32 8#32)))
    (broadcastInDim S4096x2x1 ![0, 1] bcast_S4096x2_S4096x2x1_0_1 idx)

/-- Where the start indices are in range. -/
def inside (st : IVec S4096x2x1 32) : IVec S4096x2 1 :=
  Host.reduce IntOp.andi
    (andi (cmpi .sge st (broadcastInDim S4096x2x1 ![] bcast_S_S4096x2x1 (constantI S_ 32 0#32)))
      (cmpi .sle st (broadcastInDim S4096x2x1 ![0, 1, 2] bcast_S1x1x1_S4096x2x1_0_1_2
        (broadcastInDim S1x1x1 ![2] bcast_S1_S1x1x1_2 (constantI S1 32 7#32)))))
    (constantI S_ 1 1#1) reducesTo_S4096x2x1_S4096x2_d2 h_S_

/-- The selected rows, and a fixed value where a position is out of range. -/
def rows (a : FVec Ideal S4096x8x768 .f32) (idx : IVec S4096x2 32) : FVec Ideal S4096x2x768 .f32 :=
  select (broadcastInDim S4096x2x768 ![0, 1] bcast_S4096x2_S4096x2x768_0_1 (inside (starts idx)))
    (Host.gather gather_S4096x8x768_S4096x2x1_S4096x2x768_2_1_0_0_1_2_11768 a (starts idx))
    (broadcastInDim S4096x2x768 ![] bcast_S_S4096x2x768 (constant S_ .f32 0x7FC00000#32))

/-- How a selected element's place in the table is found. -/
abbrev dims : GatherDims S4096x8x768 S4096x2x1 S4096x2x768 := gather_S4096x8x768_S4096x2x1_S4096x2x768_2_1_0_0_1_2_11768

/-- A position's word is not negative, and lies from 0 to 7. -/
theorem position_word : ∀ e : Fin 8, IntOp.cmpi .slt (BitVec.ofNat 32 e.val) 0#32 = 0#1
    ∧ IntOp.cmpi .sge (BitVec.ofNat 32 e.val) 0#32 = 1#1 ∧ IntOp.cmpi .sle (BitVec.ofNat 32 e.val) 7#32 = 1#1
    ∧ (BitVec.ofNat 32 e.val).toInt.toNat = e.val := by
  decide +kernel

variable (idx : IVec S4096x2 32) (n : Fin 4096) (r : Fin 2) (e : Fin 8) (h : idx (ix2 n r) = BitVec.ofNat 32 e.val)
include h

/-- The start index of a position is the position. -/
theorem starts_word (z : Fin 1) : starts idx (ix3 n r z) = BitVec.ofNat 32 e.val := by
  pointwise [starts]
  rw [h, (position_word e).1]
  rfl

/-- A position is in range. -/
theorem inside_word : inside (starts idx) (ix2 n r) = 1#1 := by
  pointwise [inside]
  simp only [starts_word idx n r e h]
  rw [(position_word e).2.1, (position_word e).2.2.1]
  decide

/-- Element `k` of a selected row is read at element `k` of the row at its position. -/
theorem source_row (k : Fin 768) : dims.operandIdx (ix3 n r k) (starts idx) = ix3 n e k := by
  have hsi : dims.siIdx (ix3 n r k) ⟨0, Nat.one_pos⟩ = ix3 n r 0 := by
    funext b
    fin_cases b <;> rfl
  have hstart : dims.start (ix3 n r k) (starts idx) 1 = e.val := by
    have h' : dims.start (ix3 n r k) (starts idx) 1
        = min (starts idx (dims.siIdx (ix3 n r k) ⟨0, Nat.one_pos⟩)).toInt.toNat 7 := rfl
    rw [h', hsi, starts_word idx n r e h, (position_word e).2.2.2]
    omega
  funext a
  refine Fin.ext ?_
  change dims.start _ _ a + dims.batchCoord _ a + dims.offCoord _ a = _
  fin_cases a
  · exact Nat.zero_add _
  · exact congrArg (· + 0 + 0) hstart
  · exact Nat.zero_add _

/-- A selected row is the row at its position. -/
theorem rows_apply (a : FVec Ideal S4096x8x768 .f32) (k : Fin 768) : rows a idx (ix3 n r k) = a (ix3 n e k) := by
  pointwise [rows]
  rw [inside_word idx n r e h]
  change a (dims.operandIdx (ix3 n r k) (starts idx)) = _
  congr 1
  exact source_row idx n r e h k

end Cert.ReferenceIdeal.Take

end
-- ==== Proof.Reference.lean ====
/- What the reference computes: the adapters' outputs and the logits of every token, the two rows selected for each
   token, and the result, which is the two chosen adapters' outputs added. -/
module

public import proofs.«01_k».proof.Proof.Gen.ReferenceIdeal.Run
public import proofs.«01_k».proof.Proof.TopTwo
public import proofs.«01_k».proof.Proof.Take

@[expose] public section

set_option maxRecDepth 16384

noncomputable section

namespace Cert.ReferenceIdeal.Reference

open Idealize.ShloMosaic Idealize.ShloMosaic.TcCoe Cert.ReferenceIdeal Cert.ReferenceIdeal.Facts₀

variable [Facts₀]

variable (x : FVec Ideal S2x2048x768 .f32) (w1 : FVec Ideal S768x512 .f32) (b1 : FVec Ideal S512 .f32)
  (w2 : FVec Ideal S8x64x768 .f32) (b2 : FVec Ideal S8x768 .f32) (wg : FVec Ideal S768x8 .f32) (bg : FVec Ideal S8 .f32)

/-- The logits of every token, tokens in one row after another. -/
def logits : FVec Ideal S4096x8 .f32 :=
  shapeCast _ (addf (Host.dotGeneral dot_S2x2048x768_S768x8_S2x2048x8_2_0_01_1_n_n none x wg)
    (broadcastInDim S2x2048x8 ![0, 1, 2] bcast_S1x1x8_S2x2048x8_0_1_2 (broadcastInDim S1x1x8 ![2] bcast_S8_S1x1x8_2 bg)))
    shapeCasts_S2x2048x8_S4096x8

/-- The first layer's outputs. -/
def hidden : FVec Ideal S2x2048x512 .f32 :=
  addf (Host.dotGeneral dot_S2x2048x768_S768x512_S2x2048x512_2_0_01_1_n_n none x w1)
    (broadcastInDim S2x2048x512 ![0, 1, 2] bcast_S1x1x512_S2x2048x512_0_1_2 (broadcastInDim S1x1x512 ![2] bcast_S512_S1x1x512_2 b1))

/-- The activations of the first layer's outputs. -/
def activations (h : FVec Ideal S2x2048x512 .f32) : FVec Ideal S2x2048x512 .f32 :=
  mulf (mulf (broadcastInDim S2x2048x512 ![] bcast_S_S2x2048x512 (constant S_ .f32 0x3F000000#32)) h)
    (Host.erfc (mulf (Host.negf h) (broadcastInDim S2x2048x512 ![] bcast_S_S2x2048x512 (constant S_ .f32 0x3F3504F3#32))))

/-- The outputs of all the adapters on activations `a`. -/
def outputs (a : FVec Ideal S2x2048x512 .f32) : FVec Ideal S2x2048x8x768 .f32 :=
  addf (transpose S2x2048x8x768 [2, 3, 0, 1] (Host.dotGeneral dot_S8x64x768_S2x2048x8x64_S8x768x2x2048_1_3_2_01_0_2 none w2
      (shapeCast _ a shapeCasts_S2x2048x512_S2x2048x8x64)) transposes_S8x768x2x2048_S2x2048x8x768_2_3_0_1)
    (broadcastInDim S2x2048x8x768 ![0, 1, 2, 3] bcast_S1x1x8x768_S2x2048x8x768_0_1_2_3
      (broadcastInDim S1x1x8x768 ![2, 3] bcast_S8x768_S1x1x8x768_2_3 b2))

/-- The selected rows, added over each token's two, halved, and doubled. -/
def combined (s : FVec Ideal S4096x2x768 .f32) : FVec Ideal S2x2048x768 .f32 :=
  mulf (shapeCast _ (Host.divf (Host.reduceAdd s (constant S_ .f32 0x00000000#32) reducesTo_S4096x2x768_S4096x768_d1 h_S_)
      (broadcastInDim S4096x768 ![] bcast_S_S4096x768 (constant S_ .f32 0x40000000#32))) shapeCasts_S4096x768_S2x2048x768)
    (broadcastInDim S2x2048x768 ![] bcast_S_S2x2048x768 (constant S_ .f32 0x40000000#32))

/-- The number of token `l` of sequence `b` among all the tokens. -/
def number (b : Fin 2) (l : Fin 2048) : Fin 4096 := ⟨b.val * 2048 + l.val, by omega⟩

/-- A token's sequence and its place there, from its number. -/
theorem number_parts (b : Fin 2) (l : Fin 2048) : (number b l).val / 2048 = b.val ∧ (number b l).val % 2048 = l.val := by
  simp only [number]
  omega

/-- The pattern of two is two. -/
theorem two_word : Ideal.ofBits .f32 0x40000000#32 = ((2 : ℝ) : EReal) := by
  simp [Ideal.ofBits, Ideal.ieee, -EReal.coe_mul]
  norm_num

/-- A value halved and then doubled is the value, an infinite one too. -/
theorem halved_doubled (a : EReal) :
    Ideal.div a (Ideal.ofBits .f32 0x40000000#32) * Ideal.ofBits .f32 0x40000000#32 = a := by
  rw [two_word, Ideal.div_coe (by norm_num), mul_assoc, ← EReal.coe_mul]
  norm_num

/-- A token's logits. -/
theorem logits_apply (hbg : ∀ i, bg i = (0 : EReal)) (b : Fin 2) (l : Fin 2048) (e : Fin 8) :
    logits x wg bg (ix2 (number b l) e) = Spec.logit (Spec.token x b l) wg e := by
  pointwise [logits]
  rw [hbg, add_zero]
  simp only [number_parts b l]
  rfl

/-- A token's first layer. -/
theorem hidden_apply (hb1 : ∀ i, b1 i = (0 : EReal)) (b : Fin 2) (l : Fin 2048) (m : Fin 512) :
    hidden x w1 b1 (ix3 b l m) = Spec.hidden (Spec.token x b l) w1 m := by
  pointwise [hidden]
  rw [hb1, add_zero]
  rfl

/-- The reference's activation is the kernel's. -/
theorem activations_apply (h : FVec Ideal S2x2048x512 .f32) (b : Fin 2) (l : Fin 2048) (m : Fin 512) :
    activations h (ix3 b l m) = Spec.gelu (h (ix3 b l m)) := by
  pointwise [activations]
  rw [neg_mul, Ideal.erfc_neg, mul_comm (Ideal.ofBits .f32 0x3F000000#32)]
  rfl

/-- An adapter's output for a token. -/
theorem outputs_apply (hb2 : ∀ i, b2 i = (0 : EReal)) (a : FVec Ideal S2x2048x512 .f32) (b : Fin 2) (l : Fin 2048) (e : Fin 8)
    (k : Fin 768) : outputs w2 b2 a (ix4 b l e k) = ∑ i : Fin 64, a (ix3 b l (Spec.unit e i)) * w2 (ix3 e i k) := by
  pointwise [outputs]
  rw [hb2, add_zero]
  exact Finset.sum_congr rfl fun i _ => mul_comm _ _

/-- A token's combined output. -/
theorem combined_apply (s : FVec Ideal S4096x2x768 .f32) (b : Fin 2) (l : Fin 2048) (k : Fin 768) :
    combined s (ix3 b l k) = s (ix3 (number b l) 0 k) + s (ix3 (number b l) 1 k) := by
  pointwise [combined]
  rw [halved_doubled, Fin.sum_univ_two]
  rfl

/-- The reference's value, in these parts. -/
theorem parts (m : (ℓ : Loc nD τ sig) → Buf (Elt Ideal) ℓ) (c : Dev nD) :
    Value.res_main_v30 (F := Ideal) m c = combined (Take.rows
      (shapeCast _ (outputs (m ((c : Thread nD τ).loc main_arg3)) (m ((c : Thread nD τ).loc main_arg4))
        (activations (hidden (m ((c : Thread nD τ).loc main_arg0)) (m ((c : Thread nD τ).loc main_arg1))
          (m ((c : Thread nD τ).loc main_arg2))))) shapeCasts_S2x2048x8x768_S4096x8x768)
      (Host.topK S4096x2 1 (FloatOps.cmpfTotal .gt) (logits (m ((c : Thread nD τ).loc main_arg0))
        (m ((c : Thread nD τ).loc main_arg5)) (m ((c : Thread nD τ).loc main_arg6))) sliceFits_S4096x8_S4096x2).2) := by
  unfold Value.res_main_v30
  rfl

/-- The table the rows are selected from: each token's adapters. -/
theorem table_apply (hb1 : ∀ i, b1 i = (0 : EReal)) (hb2 : ∀ i, b2 i = (0 : EReal)) (b : Fin 2) (l : Fin 2048) (e : Fin 8)
    (k : Fin 768) :
    shapeCast _ (outputs w2 b2 (activations (hidden x w1 b1))) shapeCasts_S2x2048x8x768_S4096x8x768 (ix3 (number b l) e k)
      = Spec.adapter (Spec.token x b l) w1 w2 k e := by
  pointwise
  simp only [number_parts b l]
  rw [outputs_apply w2 b2 hb2]
  exact Finset.sum_congr rfl fun i _ => by rw [activations_apply, hidden_apply x w1 b1 hb1]

/-- The reference's value, where the biases are zero and no logit is −∞. -/
theorem value (m : (ℓ : Loc nD τ sig) → Buf (Elt Ideal) ℓ) (c : Dev nD)
    (hb1 : ∀ i, m ((c : Thread nD τ).loc main_arg2) i = (0 : EReal))
    (hb2 : ∀ i, m ((c : Thread nD τ).loc main_arg4) i = (0 : EReal))
    (hbg : ∀ i, m ((c : Thread nD τ).loc main_arg6) i = (0 : EReal))
    (hg : ∀ b l e, Spec.logit (Spec.token (m ((c : Thread nD τ).loc main_arg0)) b l) (m ((c : Thread nD τ).loc main_arg5)) e
      ≠ ⊥) :
    Value.res_main_v30 (F := Ideal) m c = Spec.layer (m ((c : Thread nD τ).loc main_arg0)) (m ((c : Thread nD τ).loc main_arg5))
      (m ((c : Thread nD τ).loc main_arg1)) (m ((c : Thread nD τ).loc main_arg3)) := by
  rw [parts]
  funext j
  obtain ⟨b, l, k, rfl⟩ : ∃ b l k, j = ix3 b l k := ⟨j 0, j 1, j 2, eq_ix3 j⟩
  have hlogits := logits_apply (m ((c : Thread nD τ).loc main_arg0)) (m ((c : Thread nD τ).loc main_arg5))
    (m ((c : Thread nD τ).loc main_arg6)) hbg b l
  have hlisted := TopTwo.listed (logits (m ((c : Thread nD τ).loc main_arg0)) (m ((c : Thread nD τ).loc main_arg5))
    (m ((c : Thread nD τ).loc main_arg6))) sliceFits_S4096x8_S4096x2 (number b l)
  simp only [hlogits] at hlisted
  rw [combined_apply, Take.rows_apply _ _ _ _ (hlisted 0 (hg b l)), Take.rows_apply _ _ _ _ (hlisted 1 (hg b l)),
    table_apply _ _ _ _ _ hb1 hb2, table_apply _ _ _ _ _ hb1 hb2]
  rfl

end Cert.ReferenceIdeal.Reference

end
-- ==== Proof.Pre.lean ====
/- What the precondition says: the three biases are zero everywhere, and no gate logit is −∞. -/
module

public import proofs.«01_k».proof.Pre_biases_zero_logits_above_minus_infinity
public import proofs.«01_k».proof.Proof.Words
public import Idealize.ShloMosaic.Lib.StableHlo.Predicate

@[expose] public section

set_option maxRecDepth 16384

noncomputable section

namespace Cert.Pre

open Idealize.ShloMosaic Cert.Pre_biases_zero_logits_above_minus_infinity

/-- The shapes the precondition's operations relate are related. -/
instance facts : Facts where
  bcast_S_S512 := by decide
  reducesTo_S512_S_d0 := by decide
  h_S_ := by decide
  bcast_S_S8x768 := by decide
  reducesTo_S8x768_S_d0_1 := by decide
  bcast_S_S8 := by decide
  reducesTo_S8_S_d0 := by decide
  bcast_S_S2x2048x8 := by decide
  reducesTo_S2x2048x8_S_d0_1_2 := by decide
  dot_S2x2048x768_S768x8_S2x2048x8_2_0_01_1_n_n_wf := by decide

/-- The bitwise and of two truth words is set only where both are. -/
theorem andi_set : ∀ a b : BitVec 1, IntOp.andi a b = 1#1 → a = 1#1 ∧ b = 1#1 := by decide

/-- A conjunction folded over a set is set only where every term is. -/
theorem fold_andi_set {ι : Type} [DecidableEq ι] (s : Finset ι) (init : BitVec 1) (f : ι → BitVec 1)
    (h : s.fold IntOp.andi init f = 1#1) (i : ι) (hi : i ∈ s) : f i = 1#1 := by
  rw [← Finset.insert_erase hi, Finset.fold_insert (Finset.notMem_erase i s)] at h
  exact (andi_set _ _ h).1

/-- A conjunction over a whole array is set only where every element is. -/
theorem reduce_andi_set {s : Shape} {axes : List (Fin s.rank)} (x : IVec s 1) (init : IVec S_ 1) (h : s.ReducesTo axes S_)
    (hu : 0 < S_.numel) (j : S_.Idx) (hx : Host.reduce IntOp.andi x init h hu j = 1#1) (i : s.Idx) : x i = 1#1 := by
  rw [Host.reduce_eq_fold] at hx
  exact fold_andi_set _ _ _ hx i (by simpa using funext fun a => a.elim0)

/-- The pattern of zero is zero. -/
theorem zero_word : Ideal.ofBits .f32 0x00000000#32 = (0 : EReal) := by
  simp [Ideal.ofBits, Ideal.ieee]

variable (x : FVec Ideal S2x2048x768 .f32) (w1 : FVec Ideal S768x512 .f32) (b1 : FVec Ideal S512 .f32)
  (w2 : FVec Ideal S8x64x768 .f32) (b2 : FVec Ideal S8x768 .f32) (wg : FVec Ideal S768x8 .f32) (bg : FVec Ideal S8 .f32)

/-- Equality to a broadcast zero, read at an element. -/
theorem eq_zero {s : Shape} (b : FVec Ideal s .f32) (h : S_.BroadcastsInDim s (![] : Fin 0 → Fin s.rank)) (i : s.Idx)
    (hb : cmpf .oeq b (broadcastInDim s ![] h (constant S_ .f32 0x00000000#32)) i = 1#1) : b i = (0 : EReal) := by
  have h' : Ideal.cmp .oeq (b i) (Ideal.ofBits .f32 0x00000000#32) = 1#1 := hb
  rw [zero_word] at h'
  simpa [Ideal.cmp, StableHlo.Predicate.ofBool_eq_one_iff] using h'

/-- The precondition, read: the biases are zero everywhere, and every token's logits are above −∞. -/
theorem read (h : fn (F := Ideal) x w1 b1 w2 b2 wg bg = fun _ => 1#1) :
    (∀ i, b1 i = (0 : EReal)) ∧ (∀ i, b2 i = (0 : EReal)) ∧ (∀ i, bg i = (0 : EReal))
      ∧ ∀ b l e, Spec.logit (Spec.token x b l) wg e ≠ ⊥ := by
  have h0 := congrFun h ix0
  obtain ⟨h1, hlogit⟩ := andi_set _ _ h0
  obtain ⟨h2, hbg⟩ := andi_set _ _ h1
  obtain ⟨hb1, hb2⟩ := andi_set _ _ h2
  refine ⟨fun i => eq_zero b1 _ i (reduce_andi_set _ _ _ _ _ hb1 i), fun i => eq_zero b2 _ i (reduce_andi_set _ _ _ _ _ hb2 i),
    fun i => eq_zero bg _ i (reduce_andi_set _ _ _ _ _ hbg i), fun b l e => ?_⟩
  have hl := reduce_andi_set _ _ _ _ _ hlogit (ix3 b l e)
  have hdot : Host.dotGeneral dot_S2x2048x768_S768x8_S2x2048x8_2_0_01_1_n_n none x wg (ix3 b l e)
      = Spec.logit (Spec.token x b l) wg e := by
    pointwise [dot_S2x2048x768_S768x8_S2x2048x8_2_0_01_1_n_n]
    rfl
  have h' : Ideal.cmp .ogt (Spec.logit (Spec.token x b l) wg e) (Ideal.ofBits .f32 0xFF800000#32) = 1#1 := by
    rw [← hdot]
    exact hl
  rw [Words.minus_infinity] at h'
  simpa [Ideal.cmp, StableHlo.Predicate.ofBool_eq_one_iff, bot_lt_iff_ne_bot] using h'

end Cert.Pre

end
-- ==== Proof.Equation.lean ====
/- The equation: under the precondition the kernel's result array and the reference's value are the same layer. -/
module

public import proofs.«01_k».proof.Defs
public import proofs.«01_k».proof.Proof.Gen.KernelIdeal
public import proofs.«01_k».proof.Proof.Gen.ReferenceIdeal
public import proofs.«01_k».proof.Proof.Array
public import proofs.«01_k».proof.Proof.Reference
public import proofs.«01_k».proof.Proof.Pre

@[expose] public section

noncomputable section

namespace Cert.Equation

open Idealize.ShloMosaic Idealize.SL.Sem

/-- Kernel and reference, from the same arguments, both run, leave their arguments as they were, and end with the same
    result: for every token the two chosen adapters' outputs, added. -/
theorem algebraic :
    Cert.algebraic_KernelIdeal_ReferenceIdeal_pre_biases_zero_logits_above_minus_infinity := by
  intro m g m' g' hpre hargs
  refine ⟨fun c => (Cert.KernelIdeal.Gen.dats m 0 c).arrAt 4 Cert.KernelIdeal.cfg0.N,
    Cert.KernelIdeal.Value.run_blocks m g, ?_⟩
  refine (θ_run Cert.ReferenceIdeal.defs _ _).mono (fun r h c => ⟨(h c).1.trans ?_, (h c).2⟩)
    (Cert.ReferenceIdeal.Value.run (F := Ideal) m' g')
  obtain ⟨hb1, hb2, hbg, hg⟩ := Pre.read _ _ _ _ _ _ _ (hpre c)
  obtain ⟨h0, h1, h2, h3, h4, h5, h6⟩ := hargs c
  have hvalue := Cert.ReferenceIdeal.Reference.value m' c (by rw [h2]; exact hb1) (by rw [h4]; exact hb2)
    (by rw [h6]; exact hbg) (by rw [h0, h5]; exact hg)
  rw [h0, h5, h1, h3] at hvalue
  exact hvalue.trans (Cert.KernelIdeal.Array.final m c hg).symm

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The reference runs, leaves its arguments as they were, and ends with every semaphore counter at zero: it has none. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Everything claimed: the frames, also under the precondition; that the ideal program is the kernel's own text; and the
    equation of kernel and reference under the precondition. -/
theorem claim : Cert.Claim := ⟨Cert.Kernel.Gen.facts, Cert.KernelIdeal.Gen.facts, Cert.ReferenceIdeal.Gen.facts, Cert.Pre.facts,
  fun m ρ _ => Cert.Kernel.Gen.frame m ρ, fun m ρ _ => Cert.KernelIdeal.Gen.frame m ρ,
  fun m ρ _ => Cert.KernelIdeal.Gen.frame m ρ, frame_reference, fun m ρ _ => frame_reference m ρ trivial, trivial,
  Cert.Equation.algebraic⟩

end Cert.Proof

end
